-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384 : Shape := ⟨1, ![16384]⟩
abbrev S1024 : Shape := ⟨1, ![1024]⟩
abbrev S_ : Shape := ⟨0, ![]⟩
abbrev S16 : Shape := ⟨1, ![16]⟩

abbrev nBuf : Table → Nat
  | .hbm => 3
  | .local .scVector .vmem => 3
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .local .scVector .vmem, ⟨0, _⟩ => ⟨S1024, .i32⟩
  | .local .scVector .vmem, ⟨1, _⟩ => ⟨S1024, .i32⟩
  | .local .scVector .vmem, ⟨2, _⟩ => ⟨S1024, .i32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S_ : Shape := ⟨0, ![]⟩

abbrev nBuf : Space → Nat
  | .hbm => 92
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S_, .i32⟩
  | .hbm, ⟨53, _⟩ => ⟨S16384, .i32⟩
  | .hbm, ⟨54, _⟩ => ⟨S16384, .i32⟩
  | .hbm, ⟨55, _⟩ => ⟨S16384, .i32⟩
  | .hbm, ⟨56, _⟩ => ⟨S_, .i32⟩
  | .hbm, ⟨57, _⟩ => ⟨S16384, .i32⟩
  | .hbm, ⟨58, _⟩ => ⟨S16384, .i32⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .i32⟩
  | .hbm, ⟨63, _⟩ => ⟨S_, .i32⟩
  | .hbm, ⟨64, _⟩ => ⟨S16384, .i32⟩
  | .hbm, ⟨65, _⟩ => ⟨S16384, .i32⟩
  | .hbm, ⟨66, _⟩ => ⟨S_, .i32⟩
  | .hbm, ⟨67, _⟩ => ⟨S16384, .i32⟩
  | .hbm, ⟨68, _⟩ => ⟨S16384, .i32⟩
  | .hbm, ⟨69, _⟩ => ⟨S16384, .i32⟩
  | .hbm, ⟨70, _⟩ => ⟨S_, .i32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S16384, .i32⟩
  | .hbm, ⟨76, _⟩ => ⟨S16384, .i32⟩
  | .hbm, ⟨77, _⟩ => ⟨S_, .i32⟩
  | .hbm, ⟨78, _⟩ => ⟨S16384, .i32⟩
  | .hbm, ⟨79, _⟩ => ⟨S16384, .i1⟩
  | .hbm, ⟨80, _⟩ => ⟨S_, .i32⟩
  | .hbm, ⟨81, _⟩ => ⟨S16384, .i32⟩
  | .hbm, ⟨82, _⟩ => ⟨S16384, .i1⟩
  | .hbm, ⟨83, _⟩ => ⟨S_, .i32⟩
  | .hbm, ⟨84, _⟩ => ⟨S_, .i1⟩
  | .hbm, ⟨85, _⟩ => ⟨S16384, .i1⟩
  | .hbm, ⟨86, _⟩ => ⟨S16384, .i1⟩
  | .hbm, ⟨87, _⟩ => ⟨S16384, .i1⟩
  | .hbm, ⟨88, _⟩ => ⟨S16384, .i32⟩
  | .hbm, ⟨89, _⟩ => ⟨S16384, .i32⟩
  | .hbm, ⟨90, _⟩ => ⟨S16384, .i32⟩
  | .hbm, ⟨91, _⟩ => ⟨S16384, .i32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_v18 : Ref sig .tc := ⟨.hbm, 27, rfl⟩
abbrev main_v19 : Ref sig .tc := ⟨.hbm, 28, rfl⟩
abbrev main_c_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_c_8 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_9 : Ref sig .tc := ⟨.hbm, 40, rfl⟩
abbrev main_v28 : Ref sig .tc := ⟨.hbm, 41, rfl⟩
abbrev main_v29 : Ref sig .tc := ⟨.hbm, 42, rfl⟩
abbrev main_c_10 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_11 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_12 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_13 : Ref sig .tc := ⟨.hbm, 56, rfl⟩
abbrev main_v40 : Ref sig .tc := ⟨.hbm, 57, rfl⟩
abbrev main_v41 : Ref sig .tc := ⟨.hbm, 58, rfl⟩
abbrev main_c_14 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_15 : Ref sig .tc := ⟨.hbm, 63, rfl⟩
abbrev main_v45 : Ref sig .tc := ⟨.hbm, 64, rfl⟩
abbrev main_v46 : Ref sig .tc := ⟨.hbm, 65, rfl⟩
abbrev main_c_16 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_17 : Ref sig .tc := ⟨.hbm, 70, rfl⟩
abbrev main_call0_c : Ref sig .tc := ⟨.hbm, 71, rfl⟩
abbrev main_call0_v0 : Ref sig .tc := ⟨.hbm, 72, rfl⟩
abbrev main_call0_c_0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_c_1 : Ref sig .tc := ⟨.hbm, 77, rfl⟩
abbrev main_call0_v4 : Ref sig .tc := ⟨.hbm, 78, rfl⟩
abbrev main_call0_v5 : Ref sig .tc := ⟨.hbm, 79, rfl⟩
abbrev main_call0_c_2 : Ref sig .tc := ⟨.hbm, 80, rfl⟩
abbrev main_call0_v6 : Ref sig .tc := ⟨.hbm, 81, rfl⟩
abbrev main_call0_v7 : Ref sig .tc := ⟨.hbm, 82, rfl⟩
abbrev main_call0_c_3 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_v12 : Ref sig .tc := ⟨.hbm, 88, rfl⟩
abbrev main_call0_v13 : Ref sig .tc := ⟨.hbm, 89, rfl⟩
abbrev main_v50 : Ref sig .tc := ⟨.hbm, 90, rfl⟩
abbrev main_v51 : Ref sig .tc := ⟨.hbm, 91, rfl⟩

abbrev nD : Nat := 1
abbrev τ : Topo := Topo.v7x

variable {F : FTy → Type} [FloatOps F]
-- ==== Proof.Hash.lean ====
/-
  The hash of one pair of words, as a function on 32-bit words, and the sixteen lanes the kernel computes at once.

  `mix` is the finalizer: two multiplications by odd constants between three xor-shifts. `hashWord a b` mixes `a` and
  `b`, folds the second into the first with the golden-ratio constant and two shifts, mixes the result again and
  reduces it modulo one million. `hashVec` is the same chain written with the vector operations, as the kernel applies
  it to a pair of 16-lane registers; `hashVec_apply` says that each of its lanes is `hashWord` of the two lanes read.
  The kernel's remainder is followed by the correction that makes a floored modulus of a truncated one; on unsigned
  words nothing is negative, so the correction never acts (`flooredVec_apply`).
-/
module

public import Idealize.ShloMosaic.PureOps

@[expose] public section

noncomputable section

namespace Cert.Proof.Hash

open Idealize.ShloMosaic

/-! ## On words -/

/-- The finalizer on one word. -/
def mix (h : BitVec 32) : BitVec 32 :=
  let h₁ := (h ^^^ (h >>> 16)) * 2246822507#32
  let h₂ := (h₁ ^^^ (h₁ >>> 13)) * 3266489909#32
  h₂ ^^^ (h₂ >>> 16)

/-- The hash of two words before its reduction. -/
def blend (a b : BitVec 32) : BitVec 32 :=
  mix (mix a ^^^ (mix b + 2654435769#32 + (mix a <<< 6) + (mix a >>> 2)))

/-- The bin of two words: their hash modulo one million. -/
def hashWord (a b : BitVec 32) : BitVec 32 := blend a b % 1000000#32

/-- The bins of two arrays, element by element. -/
def hashArr {s : Shape} (f g : IVec s 32) : IVec s 32 := fun j => hashWord (f j) (g j)

/-! ## Facts shared by the kernel's chain and the reference's -/

/-- The divisor as both programs compute it: one million, being nonzero, is kept. -/
theorem divisor_eq : Scalar.select (Scalar.cmpi .eq 1000000#32 0#32) 1#32 1000000#32 = 1000000#32 := by decide

/-- No unsigned word is below zero. -/
theorem ult_zero (x : BitVec 32) : IntOp.cmpi .ult x 0#32 = 0#1 := by
  simp [IntOp.cmpi, BitVec.ult]

/-- The correction of a truncated remainder into a floored one is no correction on unsigned words: the test that the
    signs differ fails, so whatever the other test says the remainder itself is selected. -/
theorem select_false {α : Type} (c : BitVec 1) (x y : α) : Scalar.select (IntOp.andi 0#1 c) x y = y := by
  simp [Scalar.select, IntOp.andi]

/-! ## On sixteen lanes -/

section Lanes

variable {u : Shape}

/-- The finalizer on a register. -/
def mixVec (v : IVec u 32) : IVec u 32 :=
  have v₁ := muli (xori v (shrui v (broadcast u 16#32))) (broadcast u 2246822507#32)
  have v₂ := muli (xori v₁ (shrui v₁ (broadcast u 13#32))) (broadcast u 3266489909#32)
  xori v₂ (shrui v₂ (broadcast u 16#32))

/-- Two registers folded and mixed. -/
def blendVec (a b : IVec u 32) : IVec u 32 :=
  mixVec (xori (mixVec a) (addi (addi (addi (mixVec b) (broadcast u 2654435769#32)) (shli (mixVec a) (broadcast u 6#32)))
    (shrui (mixVec a) (broadcast u 2#32))))

/-- The divisor in a scalar register. -/
def divisor : BitVec 32 := Scalar.select (Scalar.cmpi .eq 1000000#32 0#32) 1#32 1000000#32

/-- The floored remainder of a register by the divisor, as the kernel spells it. -/
def flooredVec (hb : u.Broadcasts u) (v : IVec u 32) : IVec u 32 :=
  have r := remui v (broadcast u divisor)
  select (andi (xori (cmpi .ult r (broadcast u 0#32)) (broadcastTo u (broadcast u (Scalar.cmpi .ult divisor 0#32)) hb))
    (cmpi .ne r (broadcast u 0#32))) (addi r (broadcast u divisor)) r

/-- One step of the kernel: from the two registers loaded to the register stored. -/
def hashVec (hs : u.ShapeCasts u) (hb : u.Broadcasts u) (a b : IVec u 32) : IVec u 32 :=
  shapeCast u (flooredVec hb (blendVec (shapeCast u a hs) (shapeCast u b hs))) hs

theorem mixVec_apply (v : IVec u 32) (i : u.Idx) : mixVec v i = mix (v i) := by
  simp [mixVec, mix, muli, xori, shrui, broadcast, IntOp.muli, IntOp.xori, IntOp.shrui]

theorem blendVec_apply (a b : IVec u 32) (i : u.Idx) : blendVec a b i = blend (a i) (b i) := by
  simp [blendVec, blend, mixVec_apply, addi, xori, shrui, shli, broadcast, IntOp.addi, IntOp.xori, IntOp.shrui, IntOp.shli]

/-- The floored remainder is the unsigned remainder by one million, lane by lane. -/
theorem flooredVec_apply (hb : u.Broadcasts u) (v : IVec u 32) (i : u.Idx) : flooredVec hb v i = v i % 1000000#32 := by
  show Scalar.select (IntOp.andi (IntOp.xori (IntOp.cmpi .ult _ 0#32) (IntOp.cmpi .ult divisor 0#32)) _) _
    (IntOp.remui .vector (v i) divisor) = _
  rw [ult_zero, ult_zero, show IntOp.xori 0#1 0#1 = 0#1 from rfl, select_false, show divisor = 1000000#32 from divisor_eq]
  rfl

/-- A register cast to its own shape is itself. -/
theorem shapeCast_same {α : Type} (hs : u.ShapeCasts u) (v : u.Idx → α) : shapeCast u v hs = v :=
  funext fun j => congrArg v (Shape.reshapeEquiv_self hs j)

/-- Each lane of a step's result is the bin of the two lanes read. -/
theorem hashVec_apply (hs : u.ShapeCasts u) (hb : u.Broadcasts u) (a b : IVec u 32) (i : u.Idx) :
    hashVec hs hb a b i = hashWord (a i) (b i) := by
  rw [hashVec, shapeCast_same, flooredVec_apply, blendVec_apply, shapeCast_same, shapeCast_same, hashWord]

end Lanes

end Cert.Proof.Hash

end
-- ==== Proof.Setup.lean ====
/-
  The kernel's launch, set up: the program as the launch theorem sees it, the three arrays and the sixteen chunks each
  is cut into, and what the handshakes carry.

  One vector-subcore kernel on one SparseCore: task `i` of sixteen takes chunk `i` (1024 words) of the two inputs and of
  the output, and hands the three chunks back with the output's at the bins of the inputs' (`Hash.hashArr`). The call as
  a whole therefore takes the three arrays and hands them back with the output at the bins of the inputs, element by
  element.
-/
module

public import proofs.«01_k».proof.Defs
public import proofs.«01_k».proof.Proof.Hash
public import Idealize.ShloMosaic.Lib.SparseCore.Quiescent
public import Idealize.ShloMosaic.Lib.StableHlo.Run
public import Idealize.ShloMosaic.Lib.Batch
public import Idealize.ShloMosaic.Lib.Pipeline.Kit
public import Idealize.ShloMosaic.Lib.Tactic
public import proofs.«01_k».proof.Proof.Gen.KernelIdeal

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the pipelined table, the launch's configuration, its table of bodies and its variants. -/
abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are apart from each other and from the kernel's scratch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and their chunks -/

variable (m : (ℓ : Loc nD τ sig) → Buf (Elt F) ℓ)

/-- The two inputs and the output, as locations of device `d`. -/
abbrev xLoc (d : Dev nD) : Loc nD τ sig := (SparseCore.T d).loc main_arg0
abbrev yLoc (d : Dev nD) : Loc nD τ sig := (SparseCore.T d).loc main_arg1
abbrev zLoc (d : Dev nD) : Loc nD τ sig := (SparseCore.T d).loc main_v0

/-- What the kernel is to leave in the output: the bins of the two inputs. -/
def bins (d : Dev nD) : Buf (Elt F) (zLoc d) :=
  Hash.hashArr (s := S16384) (m (xLoc d)) (m (yLoc d))

theorem sixteen : 16 ∣ S16384.size 0 := ⟨1024, rfl⟩
/-- Chunk `i` of an array of 16384 words: the 1024 of one task. -/
abbrev chunk (i : Fin 16) : Rect S16384 := Rect.part (s := S16384) (a₀ := 0) sixteen i

/-- A chunk's elements. -/
abbrev cells (i : Fin 16) : Finset S16384.Idx := (chunk i).set

theorem cells_disjoint : ∀ i ∈ (Finset.univ : Finset (Fin 16)), ∀ j ∈ (Finset.univ : Finset (Fin 16)), i ≠ j →
    Disjoint (cells i) (cells j) :=
  fun _ _ _ _ h => Rect.part_disjoint sixteen h

theorem cells_cover : (Finset.univ : Finset (Fin 16)).biUnion cells = Finset.univ := Rect.biUnion_part sixteen

/-- Each array is its sixteen chunks, whatever it holds. -/
theorem x_chunks (d : Dev nD) (f : Buf (Elt F) (xLoc d)) :
    (xLoc d ↦{fullShare} f : sProp 𝕄) = bigSep Finset.univ fun i : Fin 16 => xLoc d ↦[cells i]{fullShare} f := by
  rw [← pointsTo_biUnion Finset.univ (ℓ := xLoc d) cells cells_disjoint, cells_cover]
theorem y_chunks (d : Dev nD) (f : Buf (Elt F) (yLoc d)) :
    (yLoc d ↦{fullShare} f : sProp 𝕄) = bigSep Finset.univ fun i : Fin 16 => yLoc d ↦[cells i]{fullShare} f := by
  rw [← pointsTo_biUnion Finset.univ (ℓ := yLoc d) cells cells_disjoint, cells_cover]
theorem z_chunks (d : Dev nD) (f : Buf (Elt F) (zLoc d)) :
    (zLoc d ↦{fullShare} f : sProp 𝕄) = bigSep Finset.univ fun i : Fin 16 => zLoc d ↦[cells i]{fullShare} f := by
  rw [← pointsTo_biUnion Finset.univ (ℓ := zLoc d) cells cells_disjoint, cells_cover]

/-! ## What the handshakes carry -/

/-- The three arrays whole, the output at `f`. -/
abbrev arrays (d : Dev nD) (f : Buf (Elt F) (zLoc d)) : sProp 𝕄 :=
  iprop((xLoc d ↦{fullShare} m (xLoc d)) ∗ (yLoc d ↦{fullShare} m (yLoc d)) ∗ zLoc d ↦{fullShare} f)

/-- Chunk `i` of each of the three, the output's at `f`. -/
abbrev pieces (d : Dev nD) (i : Fin 16) (f : Buf (Elt F) (zLoc d)) : sProp 𝕄 :=
  iprop((xLoc d ↦[cells i]{fullShare} m (xLoc d)) ∗ (yLoc d ↦[cells i]{fullShare} m (yLoc d)) ∗ zLoc d ↦[cells i]{fullShare} f)

/-- The three arrays are their sixteen triples of chunks. -/
theorem arrays_pieces (d : Dev nD) (f : Buf (Elt F) (zLoc d)) :
    arrays m d f = bigSep Finset.univ fun i : Fin 16 => pieces m d i f := by
  unfold arrays pieces
  rw [x_chunks, y_chunks, z_chunks, bigSep_sep', bigSep_sep']

/-- The call takes the three arrays and brings them back with the output at the bins; task `i` takes and brings back
    chunk `i` of each. -/
def P : (K (F := F)).Pay (nD := nD) (Val := Elt F) (Name := ℕ) (U := UU) where
  st := fun q d _ => match q with | 0 => arrays m d (m (zLoc d))
  dn := fun q d _ => match q with | 0 => arrays m d (bins m d)
  go := fun q d _ i => match q with | 0 => pieces m d (Fin.cast nSub_zero i) (m (zLoc d))
  td := fun q d _ i => match q with | 0 => pieces m d (Fin.cast nSub_zero i) (bins m d)
  x := fun _ _ => iprop(emp)

/-- All of it may be kept in an invariant. -/
instance P_storable : (P (F := F) m).IsStorable where
  st q d _ := match q with | 0 => (inferInstance : BI.Storable (upEmb : UEmb _ 𝕄) (arrays m d (m (zLoc d))))
  dn q d _ := match q with | 0 => (inferInstance : BI.Storable (upEmb : UEmb _ 𝕄) (arrays m d (bins m d)))
  go q d _ i := match q with
    | 0 => (inferInstance : BI.Storable (upEmb : UEmb _ 𝕄) (pieces m d (Fin.cast nSub_zero i) (m (zLoc d))))
  td q d _ i := match q with
    | 0 => (inferInstance : BI.Storable (upEmb : UEmb _ 𝕄) (pieces m d (Fin.cast nSub_zero i) (bins m d)))

end Cert.Proof.Launch

end
-- ==== Proof.Steps.lean ====
/-
  The sixty-four steps of one task, as the list of what they store.

  Step `k` reads lanes `16 k … 16 k + 15` of the two inputs' scratches and stores the bins of those lanes at the same
  place of the output's scratch (`stored`). The steps' places are disjoint and cover the 1024 words, so after all of them
  the output's scratch reads, at every word, the bin of the two words at that place (`read_stores`).
-/
module

public import proofs.«01_k».proof.Defs
public import proofs.«01_k».proof.Proof.Hash
public import Idealize.ShloMosaic.Lib.Writes
public import proofs.«01_k».proof.Proof.Gen.KernelIdeal

@[expose] public section

noncomputable section

namespace Cert.Proof.Steps

open Cert.KernelIdeal Cert.KernelIdeal.Gen
open Idealize.ShloMosaic

variable {F : FTy → Type} {κ : Kind} {sp₁ sp₂ sp₃ : Space}
variable (vx : View sig κ sp₁ S1024 .i32) (vy : View sig κ sp₂ S1024 .i32) (vz : View sig κ sp₃ S1024 .i32)
variable (gx : vx.ty.Contents (Elt F)) (gy : vy.ty.Contents (Elt F)) (gz : vz.ty.Contents (Elt F))

/-- Sixteen words from a multiple of sixteen below 1024 lie within the scratch. -/
theorem lanes_inb {k : ℕ} (hk : k < 64) : ∀ a, (![16 * k] : Fin 1 → ℕ) a + S16.size a ≤ S1024.size a := by
  intro a
  match a with
  | 0 => show 16 * k + 16 ≤ 1024; omega

/-- The sixteen places of step `k`. -/
abbrev lanes {k : ℕ} (hk : k < 64) : Rect S1024 := Rect.unit (s := S1024) ![16 * k] S16.size (lanes_inb hk)

/-- What step `k` stores, and where. -/
abbrev stored {k : ℕ} (hk : k < 64) : View.Piece (Elt F) S1024 .i32 :=
  ⟨lanes hk, Hash.hashVec (u := S16) shapeCasts_S16_S16 broadcasts_S16_S16
    (vx.readAt (Elt F) (lanes hk).toLoadRect gx) (vy.readAt (Elt F) (lanes hk).toLoadRect gy)⟩

/-- What the first `n` steps store, newest first. -/
def stores : (n : ℕ) → n ≤ 64 → List (View.Piece (Elt F) S1024 .i32)
  | 0, _ => []
  | n + 1, h => stored vx vy gx gy (k := n) h :: stores n (Nat.le_of_succ_le h)

/-- Each of them is some step's. -/
theorem of_mem_stores {n : ℕ} {h : n ≤ 64} {p : View.Piece (Elt F) S1024 .i32} (hp : p ∈ stores vx vy gx gy n h) :
    ∃ (k : ℕ) (hk : k < 64), p = stored vx vy gx gy hk := by
  induction n with
  | zero => exact absurd hp List.not_mem_nil
  | succ n ih =>
    rcases List.mem_cons.mp hp with rfl | hp
    · exact ⟨n, h, rfl⟩
    · exact ih hp

/-- Each step before the `n`th is among them. -/
theorem mem_stores {n : ℕ} {h : n ≤ 64} {k : ℕ} (hk : k < 64) (hkn : k < n) :
    stored vx vy gx gy hk ∈ stores vx vy gx gy n h := by
  induction n with
  | zero => exact absurd hkn (Nat.not_lt_zero k)
  | succ n ih =>
    rcases Nat.lt_succ_iff_lt_or_eq.mp hkn with hkn | rfl
    · exact List.mem_cons_of_mem _ (ih hkn)
    · exact List.mem_cons_self

/-- Every word is in the place of the step numbered by its sixteenth. -/
theorem mem_lanes (y : S1024.Idx) : ∃ (k : ℕ) (hk : k < 64), y ∈ (lanes hk).set := by
  have hy : (y 0).val < 1024 := (y 0).isLt
  refine ⟨(y 0).val / 16, by omega, Rect.mem_set_unit.mpr fun a => ?_⟩
  match a with
  | 0 =>
    show 16 * ((y 0).val / 16) ≤ (y 0).val ∧ (y 0).val < 16 * ((y 0).val / 16) + 16
    omega

/-- After the sixty-four steps the output's scratch reads the bins of the two inputs' scratches, word by word. -/
theorem read_stores :
    vz.read (Elt F) (vz.writes (Elt F) gz (stores vx vy gx gy 64 le_rfl))
      = Hash.hashArr (s := S1024) (vx.read (Elt F) gx) (vy.read (Elt F) gy) := by
  funext y
  refine View.read_writes_apply_of_pieces (v := vz) (f := gz) (Hash.hashArr (s := S1024) (vx.read (Elt F) gx) (vy.read (Elt F) gy))
    _ (fun p hp x => ?_) y ?_
  · obtain ⟨k, hk, rfl⟩ := of_mem_stores vx vy gx gy hp
    exact Hash.hashVec_apply _ _ _ _ x
  · obtain ⟨k, hk, hy⟩ := mem_lanes y
    exact ⟨_, mem_stores vx vy gx gy hk hk, hy⟩

end Cert.Proof.Steps

end
-- ==== Proof.Tile.lean ====
/-
  One task's run (`tile_body`).

  Task `L` starts from its chunk of each array, its three scratches at anything and its two semaphores at zero. It
  fetches the two inputs' chunks, both fetches outstanding on one semaphore, and waits for both before it reads either
  scratch; so what the two deliver is known together (`fetched`). It then runs the sixty-four steps of `Steps` and writes
  the output's scratch out to its chunk. `written_bins` says that what arrives there is the bins of the inputs, and the
  task ends with its chunks back, the scratches and both semaphores as the launch asks.
-/
module

public import proofs.«01_k».proof.Proof.Setup
public import proofs.«01_k».proof.Proof.Steps
public import proofs.«01_k».proof.Proof.Gen.KernelIdeal.Skeleton

@[expose] public section

noncomputable section

namespace Cert.Proof.Launch

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- the arrays and the scratches as the body names them
local notation "xV" => (Memref.whole Cert.KernelIdeal.main_arg0_scv : Memref Cert.KernelIdeal.sig Kind.scVector Space.hbm Cert.KernelIdeal.S16384 EltTy.i32)
local notation "yV" => (Memref.whole Cert.KernelIdeal.main_arg1_scv : Memref Cert.KernelIdeal.sig Kind.scVector Space.hbm Cert.KernelIdeal.S16384 EltTy.i32)
local notation "zV" => (Memref.whole Cert.KernelIdeal.main_v0_scv : Memref Cert.KernelIdeal.sig Kind.scVector Space.hbm Cert.KernelIdeal.S16384 EltTy.i32)
local notation "sX" => (Memref.whole Cert.KernelIdeal.cc0_scratch0 : Memref Cert.KernelIdeal.sig Kind.scVector Space.vmem Cert.KernelIdeal.S1024 EltTy.i32)
local notation "sY" => (Memref.whole Cert.KernelIdeal.cc0_scratch1 : Memref Cert.KernelIdeal.sig Kind.scVector Space.vmem Cert.KernelIdeal.S1024 EltTy.i32)
local notation "sZ" => (Memref.whole Cert.KernelIdeal.cc0_scratch2 : Memref Cert.KernelIdeal.sig Kind.scVector Space.vmem Cert.KernelIdeal.S1024 EltTy.i32)

variable (m : (ℓ : Loc nD τ sig) → Buf (Elt F) ℓ)

section Tile

variable (d : Dev nD) (L : grid0.Coords)

/-! ## The task's place and its chunk -/

/-- The core, the subcore and the task's number, of sixteen. -/
abbrev cV (L : grid0.Coords) : Fin τ.nSC := (L 0).castLE hcore0
abbrev jV (L : grid0.Coords) : Fin τ.nSub := (L 1).castLE hsub0
abbrev jL (L : grid0.Coords) : Fin 16 := Fin.cast (show grid0.bound 1 = 16 from rfl) (L 1)
/-- The task's thread. -/
abbrev thr : Thread nD τ := V d (cV L) (jV L)

/-- The words the task addresses in each array, as the body spells them. -/
abbrev span (L : grid0.Coords) : Rect S16384 := Rect.unit (s := S16384) (k0_off1 L) S1024.size (k0_off1_inb L)
abbrev xW : Memref sig .scVector .hbm S1024 .i32 := (xV).slice (span L) (fun _ => rfl)
abbrev yW : Memref sig .scVector .hbm S1024 .i32 := (yV).slice (span L) (fun _ => rfl)
abbrev zW : Memref sig .scVector .hbm S1024 .i32 := (zV).slice (span L) (fun _ => rfl)

/-- They are the chunk of the task's number: there is one core, so the first coordinate is zero. -/
theorem span_eq : span L = chunk (jL L) := by
  have h0 : (L 0).val = 0 := Nat.lt_one_iff.mp (L 0).isLt
  unfold span chunk Rect.part Rect.block
  congr 1 <;> funext a <;> match a with
  | 0 => simp [k0_off1_eq, Shape.partIx, Shape.partSize, h0, Nat.mul_comm]

/-- The elements each window addresses are the chunk's. -/
theorem set_xW : (xW L).view.set = cells (jL L) := by
  show ((View.whole (main_arg0_scv : Ref sig .scVector)).slice (span L)).set = _
  rw [View.set_slice, span_eq]; exact Finset.map_refl
theorem set_yW : (yW L).view.set = cells (jL L) := by
  show ((View.whole (main_arg1_scv : Ref sig .scVector)).slice (span L)).set = _
  rw [View.set_slice, span_eq]; exact Finset.map_refl
theorem set_zW : (zW L).view.set = cells (jL L) := by
  show ((View.whole (main_v0_scv : Ref sig .scVector)).slice (span L)).set = _
  rw [View.set_slice, span_eq]; exact Finset.map_refl

/-- Holding a window is holding the chunk of the array. -/
theorem pts_xW (f : Buf (Elt F) (xLoc d)) :
    ((xW L).view.loc (thr d L) ↦[(xW L).view.set]{fullShare} f : sProp 𝕄) = xLoc d ↦[cells (jL L)]{fullShare} f := by
  rw [set_xW]
theorem pts_yW (f : Buf (Elt F) (yLoc d)) :
    ((yW L).view.loc (thr d L) ↦[(yW L).view.set]{fullShare} f : sProp 𝕄) = yLoc d ↦[cells (jL L)]{fullShare} f := by
  rw [set_yW]
theorem pts_zW (f : Buf (Elt F) (zLoc d)) :
    ((zW L).view.loc (thr d L) ↦[(zW L).view.set]{fullShare} f : sProp 𝕄) = zLoc d ↦[cells (jL L)]{fullShare} f := by
  rw [set_zW]

/-! ## The task's own semaphores and buffers -/

/-- The semaphore of the two fetches and that of the write-out. -/
abbrev inCell : GSem nD τ sig := (thr d L, .dma cc0_scratch3.sem)
abbrev outCell : GSem nD τ sig := (thr d L, .dma cc0_scoped0.sem)

/-- The task's semaphores at zero: these two, and the rest. -/
theorem ownSems0_V :
    (ownSems0 (thr d L) : sProp 𝕄)
      = iprop(semVal (inCell d L) 0 ∗ semVal (outCell d L) 0
          ∗ bigSep (((ownCells (thr d L)).erase (inCell d L)).erase (outCell d L)) fun g => semVal g 0) := by
  unfold SparseCore.Cfg.ownSems0
  rw [SparseCore.bigSep_erase' ((mem_ownCells (g := inCell d L)).mpr ⟨rfl, by
      show (SemLoc.dma cc0_scratch3.sem : SemLoc sig).isScoped .scVector = true; decide⟩),
    SparseCore.bigSep_erase' (Finset.mem_erase.mpr ⟨by simp [inCell, outCell]; decide, (mem_ownCells (g := outCell d L)).mpr ⟨rfl, by
      show (SemLoc.dma cc0_scoped0.sem : SemLoc sig).isScoped .scVector = true; decide⟩⟩)]

/-- The task's buffers at anything: the three scratches, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ## The two fetches -/

/-- What the two fetches, outstanding together on one semaphore, deliver: each input's chunk in its scratch, and the
    chunk itself back. -/
abbrev fetched (fx : Buf (Elt F) ((sX).view.loc (thr d L))) (fy : Buf (Elt F) ((sY).view.loc (thr d L))) (t : Fin 2) : sProp 𝕄 :=
  match t with
  | 0 => iprop(((sX).view.loc (thr d L) ↦{fullShare} (sX).view.write (Elt F) fx
          (ReadAs.same.apply ((xW L).view.read (Elt F) (m (xLoc d)))) Finset.univ)
        ∗ (xW L).view.loc (thr d L) ↦[(xW L).view.set]{fullShare} m (xLoc d))
  | 1 => iprop(((sY).view.loc (thr d L) ↦{fullShare} (sY).view.write (Elt F) fy
          (ReadAs.same.apply ((yW L).view.read (Elt F) (m (yLoc d)))) Finset.univ)
        ∗ (yW L).view.loc (thr d L) ↦[(yW L).view.set]{fullShare} m (yLoc d))

instance fetched_storable (fx : Buf (Elt F) ((sX).view.loc (thr d L))) (fy : Buf (Elt F) ((sY).view.loc (thr d L))) (t : Fin 2) :
    BI.Storable (upEmb : UEmb _ 𝕄) (fetched m d L fx fy t) := by
  match t with
  | 0 => exact inferInstanceAs (BI.Storable _ iprop(_ ∗ _))
  | 1 => exact inferInstanceAs (BI.Storable _ iprop(_ ∗ _))

/-! ## The chunk of the output -/

/-- A scratch after the fetch of a chunk reads that chunk. -/
abbrev landedX (fx : Buf (Elt F) ((sX).view.loc (thr d L))) : Buf (Elt F) ((sX).view.loc (thr d L)) :=
  (sX).view.write (Elt F) fx (ReadAs.same.apply ((xW L).view.read (Elt F) (m (xLoc d)))) Finset.univ
abbrev landedY (fy : Buf (Elt F) ((sY).view.loc (thr d L))) : Buf (Elt F) ((sY).view.loc (thr d L)) :=
  (sY).view.write (Elt F) fy (ReadAs.same.apply ((yW L).view.read (Elt F) (m (yLoc d)))) Finset.univ

/-- The write-out of the output's scratch, after the sixty-four steps on the two fetched chunks, leaves in the output's
    chunk the bins of the inputs. -/
theorem written_bins (fx : Buf (Elt F) ((sX).view.loc (thr d L))) (fy : Buf (Elt F) ((sY).view.loc (thr d L)))
    (fz : Buf (Elt F) ((sZ).view.loc (thr d L))) (st : List (View.Piece (Elt F) S1024 .i32))
    (hst : st = Steps.stores (sX).view (sY).view (landedX m d L fx) (landedY m d L fy) 64 le_rfl) :
    ((zW L).view.loc (thr d L) ↦[(zW L).view.set]{fullShare} (zW L).view.writes (Elt F) (m (zLoc d))
        [⟨Rect.whole S1024, ReadAs.same.apply ((sZ).view.read (Elt F) ((sZ).view.writes (Elt F) fz st))⟩] : sProp 𝕄)
      = zLoc d ↦[cells (jL L)]{fullShare} bins m d := by
  subst hst
  rw [← pts_zW]
  rw [Steps.read_stores, landedX, landedY, View.read_write_univ, View.read_write_univ, ← View.write_univ_eq_writes_whole]
  refine pointsTo_congr fun i hi => ?_
  obtain ⟨y, -, rfl⟩ := Finset.mem_map.mp hi
  rw [View.write_emb, if_pos (Finset.mem_univ y)]
  rfl

/-- The task's run: from the chunks of the two inputs and of the output to the same chunks with the output's at the bins
    of the inputs; the scratches are handed back at whatever they hold, the semaphores at zero, and nothing is owed
    beyond what was. -/
theorem tile_body [∀ e, Nonempty (Elt F e)] (hF : (K (F := F)).Facts) (O : CellTallies nD τ sig (HIx 1)) (W : Waits sig (HIx 1)) (hO : ∀ g, O g none = 0) :
    iprop(levAts (K (F := F)).L (K (F := F)).lev ∗ emp ∗ pieces m d (jL L) (m (zLoc d))
        ∗ scopedBufs (thr d L) ∗ scopedSems0 (thr d L) ∗ owes (thr d L) O W)
      ⊢ wp frame (wpE (defs₀ (F := F)) 𝒱₀ (thr d L) none) Set.univ
          (cc0__body L xV (Memref.isWhole_whole _) yV (Memref.isWhole_whole _) zV (Memref.isWhole_whole _)
            sX (Memref.isWhole_whole _) sY (Memref.isWhole_whole _) sZ (Memref.isWhole_whole _) cc0_scratch3 cc0_scoped0)
          fun _ => iprop(pieces m d (jL L) (bins m d)
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hx, Hy, Hz⟩, ⟨⟨%fx, HsX⟩, ⟨%fy, HsY⟩, ⟨%fz, HsZ⟩, Hbufs⟩, ⟨Hin, Hout, Hsems⟩, HO⟩
  ihave Hmw := (show levAts (K (F := F)).L (K (F := F)).lev ⊢ Transfers.MayWaits (thr d L) (default : HIx 1) O from
    (K (F := F)).mayWaits_none (thr := thr d L) hO) $$ Hlv
  ihave Hx' := (Entails.of_eq (pts_xW (F := F) d L _).symm) $$ Hx
  ihave Hy' := (Entails.of_eq (pts_yW (F := F) d L _).symm) $$ Hy
  ihave Hz' := (Entails.of_eq (pts_zW (F := F) d L _).symm) $$ Hz
  ihave HsX' := (show ((thr d L).loc cc0_scratch0 ↦{fullShare} fx : sProp 𝕄) ⊢ (sX).view.loc (thr d L) ↦{fullShare} fx from Entails.rfl) $$ HsX
  ihave HsY' := (show ((thr d L).loc cc0_scratch1 ↦{fullShare} fy : sProp 𝕄) ⊢ (sY).view.loc (thr d L) ↦{fullShare} fy from Entails.rfl) $$ HsY
  ihave HsZ' := (show ((thr d L).loc cc0_scratch2 ↦{fullShare} fz : sProp 𝕄) ⊢ (sZ).view.loc (thr d L) ↦{fullShare} fz from Entails.rfl) $$ HsZ
  imod (Transfers.batch_alloc' (Lvl := ℕ) (countersEmb (U := UU)) (thr d L) (default : HIx 1) ((sX).view.amount (SemLoc.dma (sig := sig) cc0_scratch3.sem))
    (fetched m d L fx fy) (sm := .dma cc0_scratch3.sem) (E := Set.univ)) $$ Hin with HB
  rw [cc0__body_eq_skeleton]
  unfold cc0__body_skel
  sl_exec
  sl_step
  isplitl [HB_src0 HB_src1 Hz']
  · isplitl [HB_src0]; · iapply (Entails.of_eq (pts_xW (F := F) d L _)); iexact HB_src0
    isplitl [HB_src1]; · iapply (Entails.of_eq (pts_yW (F := F) d L _)); iexact HB_src1
    iapply (Entails.of_eq (written_bins m d L fx fy fz _ rfl)); iexact Hz'
  isplitl [HB_dst0 HB_dst1 HsZ' Hbufs]
  · isplitl [HB_dst0]; · iexists _; iexact HB_dst0
    isplitl [HB_dst1]; · iexists _; iexact HB_dst1
    isplitl [HsZ']; · iexists _; iexact HsZ'
    iexact Hbufs
  isplitl [HB Hout Hsems]
  · isplitl [HB]; · iexact HB
    isplitl [Hout]; · iexact Hout
    iexact Hsems
  iexists _; isplitr
  swap; · iexact HO
  ipureintro; intro p _
  rcases p.2 with _ | q
  · exact .inr (.inl rfl)
  · exact .inr (.inr (congrArg some (Subsingleton.elim q 0)))

end Tile

end Cert.Proof.Launch

end
-- ==== Proof.Launch.lean ====
/-
  The whole kernel's run: every weakly fair execution of the device's threads ends, nothing faulting, with the inputs
  unchanged, the output at the inputs' bins and every semaphore counter at zero (`run_main`).

  The launch theorem asks for each task's run (`tileObl`, from `tile_body`), for the arrays' split into the tasks' chunks
  and its converse (`vecSplit`), for the host's part on the TensorCore (`hmain`: the one call), and for what the arrays
  it ends holding say of the final memory (`hfin`).
-/
module

public import proofs.«01_k».proof.Proof.Tile

@[expose] public section

noncomputable section

namespace Cert.Proof.Launch

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tasks -/

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

set_option maxRecDepth 65536 in
/-- The body the table runs on a vector subcore: the kernel's at that grid point, on the arrays and scratches whole. -/
theorem defs₀_vector (c : Fin τ.nSC) (s : Fin τ.nSub) :
    defs₀ (F := F) (.scVector c s) 0 ()
      = SparseCore.onTile hcore0 hsub0 (fun c s => cc0__body (coordsV c s)
          (Memref.whole main_arg0_scv) (Memref.isWhole_whole _) (Memref.whole main_arg1_scv) (Memref.isWhole_whole _)
          (Memref.whole main_v0_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scoped0) ⟨⟩ c s := rfl

set_option maxRecDepth 65536 in
/-- Each task's run, as the launch asks for it: the table's body at the task's grid point. -/
theorem tileObl [∀ e, Nonempty (Elt F e)] (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

/-! ## The chunks dealt and collected -/

/-- A family over the launch's tasks is a family over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The arrays are dealt to the tasks as chunks, and the chunks the tasks bring back, the output's at the bins, are the
    arrays again. -/
theorem vecSplit : (K (F := F)).VecSplit' (P m) 0 := by
  intro d c
  show arrays m d (m (zLoc d)) ⊢ |={Set.univ}=> iprop(
      (bigSep Finset.univ fun i : Fin ((K (F := F)).nSub 0) => pieces m d (Fin.cast nSub_zero i) (m (zLoc d)))
      ∗ ((bigSep Finset.univ fun i : Fin ((K (F := F)).nSub 0) => pieces m d (Fin.cast nSub_zero i) (bins m d))
          -∗ arrays m d (bins m d)))
  rw [bigSep_tasks (F := F) (fun i => pieces m d i (m (zLoc d))), bigSep_tasks (F := F) (fun i => pieces m d i (bins m d)),
    ← arrays_pieces, ← arrays_pieces]
  iintro H; imodintro
  isplitl [H]; · iexact H
  iintro H; iexact H

/-! ## The launch element: the handshakes' rounds alone -/

/-- What the launch starts with: the handshakes' rounds, and no counter. -/
def u₀ : UU := (initOf (K (F := F)).hsCells (K (F := F)).hsToks, 1)

/-- A family of empty assertions asserts nothing. -/
theorem empties {I : Type} (s : Finset I) : (bigSep s fun _ => iprop(emp)) = (iprop(emp) : sProp 𝕄) := bigSep_emp_const s

/-- It pays for the handshakes; no task and no device needs anything more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [empties]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), empties]
  iempintro

/-! ## The host's part -/

/-- The TensorCore's arrays are the two inputs and the output. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (yLoc d ↦{fullShare} W main_arg1) ∗ zLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes and what it brings back, over its one core. -/
theorem st0_eq (d : Dev nD) :
    (bigSep Finset.univ fun c : Fin ((K (F := F)).nCore 0) => (P m).st 0 d c) = arrays m d (m (zLoc d)) :=
  bigSep_univ_of_subsingleton (0 : Fin 1)
theorem dn0_eq (d : Dev nD) :
    (bigSep Finset.univ fun c : Fin ((K (F := F)).nCore 0) => (P m).dn 0 d c) = arrays m d (bins m d) :=
  bigSep_univ_of_subsingleton (0 : Fin 1)

/-- The program on device `d`'s TensorCore: the one call, from the three arrays to the three arrays with the output at
    the bins. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ arrays m d (bins m d) ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st0_eq]; iexact Harr
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What the final memory is to hold on device `d`. -/
def fq (d : Dev nD) (s' : Phys nD τ sig (Elt F)) : Prop :=
  s'.mem.mem (xLoc d) = m (xLoc d) ∧ s'.mem.mem (yLoc d) = m (yLoc d) ∧ s'.mem.mem (zLoc d) = bins m d

/-- An array held whole at contents `f` is at `f` in the memory. -/
theorem held_mem {ℓ : Loc nD τ sig} (f : Buf (Elt F) ℓ) (s' : Phys nD τ sig (Elt F)) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

/-- What a device ends holding says of the final memory. -/
theorem hfin (d : Dev nD) (s' : Phys nD τ sig (Elt F)) : iprop(arrays m d (bins m d) ∗ SI s') ⊢ (⌜fq m d s'⌝ : sProp 𝕄) := by
  iintro ⟨⟨Hx, Hy, Hz⟩, HSI⟩
  ihave H := (held_mem (F := F) _ s') $$ [HSI Hx]
  · isplitl [HSI] <;> iassumption
  icases H with ⟨%hx, HSI⟩
  ihave H := (held_mem (F := F) _ s') $$ [HSI Hy]
  · isplitl [HSI] <;> iassumption
  icases H with ⟨%hy, HSI⟩
  ihave H := (held_mem (F := F) _ s') $$ [HSI Hz]
  · isplitl [HSI] <;> iassumption
  icases H with ⟨%hz, -⟩
  ipureintro; exact ⟨hx, hy, hz⟩

/-! ## The run -/

/-- How the program ends: on every device the inputs unchanged and the output at the inputs' bins; every semaphore
    counter at zero. -/
def Ends (r : PUnit × MemSt nD τ sig (Elt F)) : Prop :=
  (∀ d : Dev nD, r.2.mem (xLoc d) = m (xLoc d) ∧ r.2.mem (yLoc d) = m (yLoc d) ∧ r.2.mem (zLoc d) = bins m d)
    ∧ r.2.sem = fun _ => 0

/-- The run of the whole program, at any float values, from any memory with zero counters. -/
theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (fun d => arrays m d (bins m d)) (u₀ (F := F)) (sep_elim_left.trans (hu₀ m)) (hmain m ρ) (fq m) (hfin m)
    (Ends m) (fun _ h hz => ⟨h, hz⟩)

end Cert.Proof.Launch

end
-- ==== Proof.Reference.lean ====
/-
  The reference's result, as a function of its arguments: the bins of the two arrays, element by element
  (`run_reference`).

  The reference works on whole arrays; the run is known as one composed term of array operations. Each of its named
  parts is read at one index here, as the corresponding function on words, and the floored remainder it ends with is
  the unsigned remainder for the reason given in `Hash`.
-/
module

public import proofs.«01_k».proof.Proof.Hash
public import proofs.«01_k».proof.Proof.Gen.ReferenceIdeal.Run

@[expose] public section

noncomputable section

namespace Cert.Proof.Reference

open Cert.ReferenceIdeal Cert.ReferenceIdeal.Gen Cert.ReferenceIdeal.Value
open Idealize.ShloMosaic Idealize.ShloMosaic.TcCoe Idealize.SL.Sem Idealize.ShloMosaic.StableHlo
open Cert.Proof.Hash

variable {F : FTy → Type} [FloatOps F]

/-- The contents of the first argument. -/
abbrev left (V : Valuation τ sig (Elt F)) : IVec S16384 32 := V (Proc.devRef .tc main_arg0)
/-- The contents of the second argument. -/
abbrev right (V : Valuation τ sig (Elt F)) : IVec S16384 32 := V (Proc.devRef .tc main_arg1)

variable (V : Valuation τ sig (Elt F)) (i : S16384.Idx)

/-! ## The finalizer on arrays -/

/-- The array holding one word everywhere. -/
abbrev fill (c : BitVec 32) : IVec S16384 32 := broadcastInDim S16384 ![] bcast_S_S16384 (constantI S_ 32 c)

/-- The finalizer on an array, in the array operations. -/
def mixArr (v : IVec S16384 32) : IVec S16384 32 :=
  have v₁ := muli (xori v (Host.shrui v (fill 16#32))) (fill 2246822507#32)
  have v₂ := muli (xori v₁ (Host.shrui v₁ (fill 13#32))) (fill 3266489909#32)
  xori v₂ (Host.shrui v₂ (fill 16#32))

theorem mixArr_apply (v : IVec S16384 32) (i : S16384.Idx) : mixArr v i = mix (v i) := by
  simp [mixArr, mix, fill, muli, xori, Host.shrui, broadcastInDim, constantI, IntOp.muli, IntOp.xori, IntOp.shrui]

/-- The array before its reduction: both arguments mixed, folded and mixed again. -/
def blendArr (a b : IVec S16384 32) : IVec S16384 32 :=
  mixArr (xori (mixArr a) (addi (addi (addi (mixArr b) (fill 2654435769#32)) (Host.shli (mixArr a) (fill 6#32)))
    (Host.shrui (mixArr a) (fill 2#32))))

theorem blendArr_apply (a b : IVec S16384 32) (i : S16384.Idx) : blendArr a b i = blend (a i) (b i) := by
  simp [blendArr, blend, mixArr_apply, fill, addi, xori, Host.shrui, Host.shli, broadcastInDim, constantI,
    IntOp.addi, IntOp.xori, IntOp.shrui, IntOp.shli]

/-! ## The remainder -/

/-- The divisor, after the guard against zero, is one million. -/
theorem divisor_const (j : S_.Idx) : res_main_call0_v1 V j = 1000000#32 := divisor_eq

/-- The remainder the reference takes, before the correction, is the unsigned one. -/
theorem remainder_apply : res_main_call0_v3 V i = hashWord (left V i) (right V i) := by
  rw [hashWord, ← blendArr_apply]
  exact congrArg (IntOp.remui .host (blendArr (left V) (right V) i)) (divisor_const V _)

/-- The reference's result: the remainder, corrected to a floored one. -/
def corrected : IVec S16384 32 :=
  select (andi (cmpi .ne (cmpi .ult (res_main_call0_v3 V) (fill 0#32))
      (broadcastInDim S16384 ![] bcast_S_S16384 (cmpi .ult (res_main_call0_v1 V) (constantI S_ 32 0#32))))
      (cmpi .ne (res_main_call0_v3 V) (fill 0#32)))
    (addi (res_main_call0_v3 V) (broadcastInDim S16384 ![] bcast_S_S16384 (res_main_call0_v1 V))) (res_main_call0_v3 V)

/-- The result is the bins of the arguments. -/
theorem corrected_eq : corrected V = hashArr (left V) (right V) := by
  funext i
  simp only [corrected, select, andi, cmpi, broadcastInDim, constantI, ult_zero,
    show IntOp.cmpi .ne 0#1 0#1 = 0#1 from rfl, select_false, remainder_apply, hashArr]

/-- Every run of the reference ends with the arguments' bins in its result and the arguments unchanged. -/
theorem run_reference (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = hashArr (s := S16384) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (corrected_eq (launchContents m c)), (h c).2⟩) (run m ρ)

end Cert.Proof.Reference

end
-- ==== Proof.lean ====
/-
  The five claims: the kernel, its idealization and the reference each end with their arguments unchanged and every
  semaphore counter at zero; the idealization rewrote nothing; and the idealized kernel and the reference end with equal
  results, namely the bins of the two argument arrays (`Hash.hashArr`).

  `Proof/Hash` defines the bins, `Proof/Setup` the assertions the threads exchange, `Proof/Steps` the sixty-four stores of
  a task, `Proof/Tile` one task's run, `Proof/Launch` the whole run, `Proof/Reference` the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Reference

@[expose] public section

noncomputable section

namespace Cert.Proof

open Idealize.ShloMosaic Idealize.SL.Sem

/-- The program as printed, read at the bit-level floats: its arguments end unchanged and every counter at zero. No
    float occurs in it, so its text is that of the idealized program, whose run is `Launch.run_main`. -/
theorem frame_kernel : quiescent_Kernel (hKernel := Kernel.Gen.facts) := fun m ρ _ =>
  (θ_run Cert.Kernel.defs _ _).mono (fun _ h => ⟨fun c => ⟨(h.1 c).1, (h.1 c).2.1⟩, h.2⟩) (Launch.run_main (F := Bits) m ρ)

/-- The idealized program likewise. -/
theorem frame_ideal : quiescent_KernelIdeal (hKernelIdeal := KernelIdeal.Gen.facts) := fun m ρ _ =>
  (θ_run Cert.KernelIdeal.defs _ _).mono (fun _ h => ⟨fun c => ⟨(h.1 c).1, (h.1 c).2.1⟩, h.2⟩) (Launch.run_main (F := Ideal) m ρ)

/-- The reference's arguments end unchanged; it declares no semaphore, so every counter is zero. -/
theorem frame_reference : quiescent_ReferenceIdeal (hReferenceIdeal := ReferenceIdeal.Gen.facts) := fun m ρ _ =>
  (θ_run Cert.ReferenceIdeal.defs _ _).mono
    (fun r h => ⟨fun c => (h c).2, Idealize.ShloMosaic.sem_eq_zero_of_no_sems (by decide) r.2⟩)
    (Reference.run_reference (F := Ideal) m ρ)

/-- The kernel and the reference, from memories agreeing on the arguments, both end with the arguments' bins in their
    result. -/
theorem algebraic : algebraic_KernelIdeal_ReferenceIdeal (hKernelIdeal := KernelIdeal.Gen.facts)
    (hReferenceIdeal := ReferenceIdeal.Gen.facts) := by
  intro m ρ m' ρ' _ hagree
  refine ⟨Launch.bins (F := Ideal) m, ?_, ?_⟩
  · exact (θ_run Cert.KernelIdeal.defs _ _).mono (fun _ h c => ⟨(h.1 c).2.2, (h.1 c).1, (h.1 c).2.1⟩)
      (Launch.run_main (F := Ideal) m ρ)
  · refine (θ_run Cert.ReferenceIdeal.defs _ _).mono (fun _ h c => ⟨(h c).1.trans ?_, (h c).2⟩)
      (Reference.run_reference (F := Ideal) m' ρ')
    rw [(hagree c).1, (hagree c).2]
    rfl

theorem claim : Cert.Claim :=
  ⟨Kernel.Gen.facts, KernelIdeal.Gen.facts, ReferenceIdeal.Gen.facts, frame_kernel, frame_ideal, frame_reference, trivial,
    algebraic⟩

end Cert.Proof

end
